-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x12 : Shape := ⟨2, ![32768, 12]⟩
abbrev S17 : Shape := ⟨1, ![17]⟩
abbrev S16 : Shape := ⟨1, ![16]⟩
abbrev S_ : Shape := ⟨0, ![]⟩
abbrev S1 : Shape := ⟨1, ![1]⟩

abbrev nBuf : Table → Nat
  | .hbm => 3
  | .local .scScalar .smem => 2
  | _ => 0

abbrev bufTy : (tb : Table) → Fin (nBuf tb) → BufTy
  | .hbm, ⟨0, _⟩ => ⟨S32768x12, .f32⟩
  | .hbm, ⟨1, _⟩ => ⟨S17, .i32⟩
  | .hbm, ⟨2, _⟩ => ⟨S16, .i32⟩
  | .local .scScalar .smem, ⟨0, _⟩ => ⟨S17, .i32⟩
  | .local .scScalar .smem, ⟨1, _⟩ => ⟨S16, .i32⟩
  | _, _ => ⟨S32768x12, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S32768x12 : Shape := ⟨2, ![32768, 12]⟩
abbrev S17 : Shape := ⟨1, ![17]⟩
abbrev S16 : Shape := ⟨1, ![16]⟩

abbrev nBuf : Space → Nat
  | .hbm => 5
  | .vmem => 0
  | .smem => 0
  | _ => 0

abbrev bufTy : (tb : Table) → Fin (tcTables nBuf tb) → BufTy
  | .hbm, ⟨0, _⟩ => ⟨S32768x12, .f32⟩
  | .hbm, ⟨1, _⟩ => ⟨S17, .i32⟩
  | .hbm, ⟨2, _⟩ => ⟨S16, .i32⟩
  | .hbm, ⟨3, _⟩ => ⟨S16, .i32⟩
  | .hbm, ⟨4, _⟩ => ⟨S16, .i32⟩
  | _, _ => ⟨S32768x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩

abbrev nD : Nat := 1
abbrev τ : Topo := Topo.v7x

variable {F : FTy → Type} [FloatOps F]
-- ==== Proof.Body.lean ====
/-
  The kernel's body on the one SparseCore sequencer that runs it.

  The sequencer copies the offsets `cu` into its scalar memory, writes the sixteen differences of neighbouring offsets into
  a second scalar buffer, one word at a time, and copies that buffer out. `run` says what this leaves: `cu` unchanged and
  the output array equal to `rowLens cu`, whatever it held before. It is stated over any float values `F`, since the body
  touches integers alone.
-/
module

public import proofs.«01_k».proof.Proof.Gen.KernelIdeal
public import proofs.«01_k».proof.Proof.Gen.KernelIdeal.Skeleton
public import Idealize.ShloMosaic.Lib.SparseCore.Quiescent
public import Idealize.ShloMosaic.Lib.Pipeline.Kit
public import Idealize.ShloMosaic.Lib.Tactic
public import Idealize.ShloMosaic.Lib.Writes
public import Idealize.ShloMosaic.Lib.WritesUnit

@[expose] public section

noncomputable section

namespace Cert.Proof.RowLengths

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the kernel computes -/

/-- Word `n` of the offsets array. -/
def at17 (n : Nat) (h : n < 17) : S17.Idx := fun _ => ⟨n, by simpa using h⟩

/-- The row lengths of the offsets `cu`: entry `i` is `cu[i + 1] - cu[i]`, in 32-bit arithmetic. -/
def rowLens (cu : S17.Idx → BitVec 32) : S16.Idx → BitVec 32 := fun i =>
  cu (at17 ((i 0).val + 1) (Nat.succ_lt_succ (i 0).isLt)) - cu (at17 (i 0).val (Nat.lt_succ_of_lt (i 0).isLt))

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

/-- The handshakes' rounds beside the transfers' counters. -/
abbrev UU : Type := URounds (GSem nD τ sig) ℕ × Counters

local notation "𝕄" => MT nD τ sig (HIx 1) (Elt F) ℕ UU ℕ

/-! ## The arrays, the two scalar buffers and the two semaphores -/

-- the memrefs of the body, spelt as the body table passes them
local notation "cuW" => (Memref.whole Cert.KernelIdeal.main_arg1_scs : Memref Cert.KernelIdeal.sig Kind.scScalar Space.hbm Cert.KernelIdeal.S17 EltTy.i32)
local notation "outW" => (Memref.whole Cert.KernelIdeal.main_v0_scs : Memref Cert.KernelIdeal.sig Kind.scScalar Space.hbm Cert.KernelIdeal.S16 EltTy.i32)
local notation "cuS" => (Memref.whole Cert.KernelIdeal.cc0_scratch0 : Memref Cert.KernelIdeal.sig Kind.scScalar Space.smem Cert.KernelIdeal.S17 EltTy.i32)
local notation "outS" => (Memref.whole Cert.KernelIdeal.cc0_scratch1 : Memref Cert.KernelIdeal.sig Kind.scScalar Space.smem Cert.KernelIdeal.S16 EltTy.i32)

variable (d : Dev nD)

/-- The sequencer that runs the body: SparseCore 0's. -/
abbrev core0 : Fin τ.nSC := (⟨0, Nat.zero_lt_one⟩ : Fin (grid0.bound 0)).castLE hcore0
abbrev S0 : Thread nD τ := S d core0
/-- The body's grid point. -/
def coords (c : Fin (grid0.bound 0)) : grid0.Coords := fun | 0 => c | ⟨_ + 1, h⟩ => absurd h (Nat.not_lt.2 (Nat.le_add_left _ _))

variable [FloatOps F]

/-! ## The values -/

/-- The offsets' copy in scalar memory, word by word: word `n` is word `n` of `cu`. -/
theorem word (fc cu : S17.Idx → BitVec 32) (n : Nat) (hn : n < 17) (inb : ∀ a, (![n] : Fin 1 → Nat) a + S1.size a ≤ S17.size a)
    (x : (Rect.unit (s := S17) ![n] S1.size inb).toLoadRect.shape.Idx) :
    View.readAt (Elt F) (cuS).view (Rect.unit (s := S17) ![n] S1.size inb).toLoadRect
      (View.write (Elt F) (cuS).view fc (ReadAs.same.apply (View.read (Elt F) (cuW).view cu)) Finset.univ) x = cu (at17 n hn) := by
  have h : View.write (Elt F) (cuS).view fc (ReadAs.same.apply (View.read (Elt F) (cuW).view cu)) Finset.univ = cu :=
    View.write_whole_univ (Val := Elt F) cc0_scratch0 fc cu
  rw [h]
  refine congrArg cu (funext fun a => Fin.ext ?_)
  have hx : (x a).val < 1 := by have := (x a).isLt; fin_cases a; exact this
  fin_cases a
  show n + 1 * (x 0).val = n
  have : (x 0).val < 1 := hx
  omega

/-- The word that the body stores at place `i`, a difference of two words of the copy, is entry `i` of the row lengths. -/
theorem entry (fc cu : S17.Idx → BitVec 32) (i : Nat) (hi : i < 16) (inb₁ : ∀ a, (![i + 1] : Fin 1 → Nat) a + S1.size a ≤ S17.size a)
    (inb₀ : ∀ a, (![i] : Fin 1 → Nat) a + S1.size a ≤ S17.size a) (inb : ∀ a, (![i] : Fin 1 → Nat) a + S1.size a ≤ S16.size a)
    (x₁ : (Rect.unit (s := S17) ![i + 1] S1.size inb₁).toLoadRect.shape.Idx) (x₀ : (Rect.unit (s := S17) ![i] S1.size inb₀).toLoadRect.shape.Idx)
    (x : (Rect.unit (s := S16) ![i] S1.size inb).shape.Idx) :
    Scalar.subi
        (View.readAt (Elt F) (cuS).view (Rect.unit (s := S17) ![i + 1] S1.size inb₁).toLoadRect
          (View.write (Elt F) (cuS).view fc (ReadAs.same.apply (View.read (Elt F) (cuW).view cu)) Finset.univ) x₁)
        (View.readAt (Elt F) (cuS).view (Rect.unit (s := S17) ![i] S1.size inb₀).toLoadRect
          (View.write (Elt F) (cuS).view fc (ReadAs.same.apply (View.read (Elt F) (cuW).view cu)) Finset.univ) x₀)
      = rowLens cu ((Rect.unit (s := S16) ![i] S1.size inb).emb x) := by
  rw [word (F := F) fc cu (i + 1) (by omega), word (F := F) fc cu i (by omega)]
  have hx : (((Rect.unit (s := S16) ![i] S1.size inb).emb x) 0).val = i := by
    show i + 1 * (x 0).val = i
    have : (x 0).val < 1 := (x 0).isLt
    omega
  refine congrArg₂ (· - ·) (congrArg cu (funext fun a => Fin.ext ?_)) (congrArg cu (funext fun a => Fin.ext ?_))
  · show i + 1 = (((Rect.unit (s := S16) ![i] S1.size inb).emb x) 0).val + 1
    exact congrArg (· + 1) hx.symm
  · exact hx.symm

/-! ## The run -/

/-- The body, from the four buffers, the two semaphore counters at zero and what the sequencer owes. -/
theorem run (O : CellTallies nD τ sig (HIx 1)) (W : Waits sig (HIx 1)) (cu : S17.Idx → BitVec 32)
    (fo : Buf (Elt F) ((outW).view.loc (S0 d))) (fc : Buf (Elt F) ((cuS).view.loc (S0 d))) (fs : Buf (Elt F) ((outS).view.loc (S0 d))) :
    (iprop(Transfers.MayWaits (S0 d) (none : HIx 1) O
        ∗ ((cuW).view.loc (S0 d) ↦{fullShare} cu) ∗ ((outW).view.loc (S0 d) ↦{fullShare} fo)
        ∗ ((cuS).view.loc (S0 d) ↦{fullShare} fc) ∗ ((outS).view.loc (S0 d) ↦{fullShare} fs)
        ∗ semVal (S0 d, SemLoc.dma cc0_scoped0.sem) 0 ∗ semVal (S0 d, SemLoc.dma cc0_scoped1.sem) 0
        ∗ owes (S0 d) O W) : sProp 𝕄)
      ⊢ wp frame (wpE (defs₀ (F := F)) 𝒱₀ (S0 d) none) Set.univ
          (cc0__rl_body (coords ⟨0, Nat.zero_lt_one⟩) cuW (Memref.isWhole_whole _) outW (Memref.isWhole_whole _)
            cuS (Memref.isWhole_whole _) outS (Memref.isWhole_whole _) cc0_scoped0 cc0_scoped1)
          fun _ => iprop(((cuW).view.loc (S0 d) ↦{fullShare} cu) ∗ ((outW).view.loc (S0 d) ↦{fullShare} rowLens cu)
            ∗ (∃ f, (cuS).view.loc (S0 d) ↦{fullShare} f) ∗ (∃ f, (outS).view.loc (S0 d) ↦{fullShare} f)
            ∗ semVal (S0 d, SemLoc.dma cc0_scoped0.sem) 0 ∗ semVal (S0 d, SemLoc.dma cc0_scoped1.sem) 0
            ∗ ∃ W', owes (S0 d) O W') := by
  iintro ⟨#Hmw, Hcu, Ho, Hcs, Hos, Hs0, Hs1, HO⟩
  sl_unfold [cc0__rl_body]
  sl_exec
  sl_step
  -- the output holds what the second buffer held when it was copied: the sixteen stored words
  have hv : View.write (Elt F) (outW).view fo (run.sl.dma64 d cu fc fs) Finset.univ = rowLens cu := by
    refine (View.write_whole_univ main_v0_scs fo (run.sl.dma64 d cu fc fs)).trans (funext fun y => ?_)
    refine View.read_writes_apply_of_pieces (outS).view fs (rowLens cu) (run.sl.Hos_16 d cu fc) ?_ y
      (View.cover_of_tiled (run.sl.Hos_16 d cu fc) (fun _ => 1) rfl y)
    unfold run.sl.Hos_16
    simp only [List.forall_mem_cons]
    refine ⟨?_, ?_, ?_, ?_, ?_, ?_, ?_, ?_, ?_, ?_, ?_, ?_, ?_, ?_, ?_, ?_, fun _ h => absurd h List.not_mem_nil⟩ <;>
      exact fun x => entry (F := F) fc cu _ (by decide) _ _ _ _ _ x
  rw [hv]
  isplitl [Hcu]; · iexact Hcu
  isplitl [Ho]; · iexact Ho
  isplitl [Hcs]; · iexists _; iexact Hcs
  isplitl [Hos]; · iexists _; iexact Hos
  isplitl [Hs0]; · iexact Hs0
  isplitl [Hs1]; · iexact Hs1
  iexists _; iexact HO

end Cert.Proof.RowLengths

end
-- ==== Proof.Launch.lean ====
/-
  The whole kernel program: @main makes one SparseCore call, and one sequencer answers it.

  The call hands the sequencer the offsets and the output array and takes back the offsets unchanged and the output at the
  row lengths. `run_main` is the program's run at any float values: every weakly fair execution terminates, nothing
  faulting, with both arguments unchanged, the output array at the row lengths of the offsets and every semaphore counter
  at zero. The three claims about the kernel are all read off it.
-/
module

public import proofs.«01_k».proof.Proof.Body

@[expose] public section

noncomputable section

namespace Cert.Proof.RowLengths

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "cuW" => (Memref.whole Cert.KernelIdeal.main_arg1_scs : Memref Cert.KernelIdeal.sig Kind.scScalar Space.hbm Cert.KernelIdeal.S17 EltTy.i32)
local notation "outW" => (Memref.whole Cert.KernelIdeal.main_v0_scs : Memref Cert.KernelIdeal.sig Kind.scScalar Space.hbm Cert.KernelIdeal.S16 EltTy.i32)
local notation "cuS" => (Memref.whole Cert.KernelIdeal.cc0_scratch0 : Memref Cert.KernelIdeal.sig Kind.scScalar Space.smem Cert.KernelIdeal.S17 EltTy.i32)
local notation "outS" => (Memref.whole Cert.KernelIdeal.cc0_scratch1 : Memref Cert.KernelIdeal.sig Kind.scScalar Space.smem Cert.KernelIdeal.S16 EltTy.i32)

/-- The launch semaphores and tables are as the launch theorem asks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, the left factor of the algebra. -/
abbrev EH : Emb (URounds (GSem nD τ sig) ℕ) (MT nD τ sig (HIx 1) (Elt F) ℕ UU ℕ) := embL

variable (m : (ℓ : Loc nD τ sig) → Buf (Elt F) ℓ) (ρ : Dev nD → PrngReg)

/-- The values array, the offsets array and the output array of a device. -/
abbrev valLoc (d : Dev nD) : Loc nD τ sig := (d.tc : Thread nD τ).loc main_arg0
abbrev cuLoc (d : Dev nD) : Loc nD τ sig := (d.tc : Thread nD τ).loc main_arg1
abbrev outLoc (d : Dev nD) : Loc nD τ sig := (d.tc : Thread nD τ).loc main_v0

/-- What the call hands over: the offsets as launched, the output array at anything. -/
abbrev given (d : Dev nD) : sProp 𝕄 := iprop((cuLoc d ↦{fullShare} m (cuLoc d)) ∗ ∃ f, outLoc d ↦{fullShare} f)
/-- What the call hands back: the offsets as launched, the output array at their row lengths. -/
abbrev back (d : Dev nD) : sProp 𝕄 :=
  iprop((cuLoc d ↦{fullShare} m (cuLoc d)) ∗ (outLoc d ↦{fullShare} (rowLens (m (cuLoc d)) : Buf (Elt F) (outLoc d))))

/-- The call's payloads. -/
def pay : (K (F := F)).Pay (nD := nD) (Val := Elt F) (Name := ℕ) (U := UU) where
  st := fun _ d _ => given m d
  dn := fun _ d _ => back m d
  go := fun _ _ _ _ => iprop(emp)
  td := fun _ _ _ _ => iprop(emp)
  x := fun _ _ => iprop(emp)

instance pay_storable : (pay (F := F) m).IsStorable where
  st _ d c := by unfold pay; infer_instance
  dn _ d c := by unfold pay; infer_instance
  go _ _ _ _ := by unfold pay; infer_instance
  td _ _ _ _ := by unfold pay; infer_instance

/-! ## The sequencer's obligation -/

section Body

variable (d : Dev nD)

/-- The two semaphore counters of the body's two copies. -/
abbrev cell0 : GSem nD τ sig := (S0 d, SemLoc.dma cc0_scoped0.sem)
abbrev cell1 : GSem nD τ sig := (S0 d, SemLoc.dma cc0_scoped1.sem)
/-- The sequencer's two scalar buffers. -/
abbrev buf0 : DevRef τ sig := (Proc.scScalar core0).devRef cc0_scratch0
abbrev buf1 : DevRef τ sig := (Proc.scScalar core0).devRef cc0_scratch1

/-- The sequencer's counters at zero are the two of the body's copies at zero, and the others. -/
theorem counters_split : (ownSems0 (S0 d) : sProp 𝕄)
    = iprop(semVal (cell0 d) 0 ∗ semVal (cell1 d) 0 ∗ bigSep (((ownCells (S0 d)).erase (cell0 d)).erase (cell1 d)) fun g => semVal g 0) := by
  have h0 : cell0 d ∈ ownCells (S0 d) :=
    mem_ownCells.mpr ⟨rfl, by show (SemLoc.dma cc0_scoped0.sem : SemLoc sig).isScoped .scScalar = true; decide⟩
  have h1 : cell1 d ∈ ownCells (S0 d) :=
    mem_ownCells.mpr ⟨rfl, by show (SemLoc.dma cc0_scoped1.sem : SemLoc sig).isScoped .scScalar = true; decide⟩
  have hne : cell1 d ≠ cell0 d := fun h =>
    absurd (congrArg Prod.snd h) (show (SemLoc.dma cc0_scoped1.sem : SemLoc sig) ≠ SemLoc.dma cc0_scoped0.sem by decide)
  unfold SparseCore.Cfg.ownSems0
  rw [SparseCore.bigSep_erase' h0, SparseCore.bigSep_erase' (Finset.mem_erase.mpr ⟨hne, h1⟩)]

/-- The sequencer's own buffers are the two of the body, each at something, and the others. -/
theorem buffers_split : (ownBufs (S0 d) : sProp 𝕄)
    = iprop((∃ f, (cuS).view.loc (S0 d) ↦{fullShare} f) ∗ (∃ f, (outS).view.loc (S0 d) ↦{fullShare} f)
        ∗ bigSep (((ownRefs (τ := τ) (sig := sig) (.scScalar core0)).erase buf0).erase buf1) fun b => iprop(∃ f, ((d, b) : Loc nD τ sig) ↦{fullShare} f)) := by
  have h0 : buf0 ∈ ownRefs (τ := τ) (sig := sig) (.scScalar core0) := mem_ownRefs.mpr rfl
  have h1 : buf1 ∈ ownRefs (τ := τ) (sig := sig) (.scScalar core0) := mem_ownRefs.mpr rfl
  have hne : buf1 ≠ buf0 := by decide
  unfold SparseCore.Cfg.ownBufs
  rw [SparseCore.bigSep_erase' h0, SparseCore.bigSep_erase' (Finset.mem_erase.mpr ⟨hne, h1⟩)]

variable [FloatOps F]

/-- The body in the shape the launch theorem asks for: from what the call hands over, the sequencer's own buffers and
    counters and what it owes, to what the call hands back and the same. -/
theorem body (O : CellTallies nD τ sig (HIx 1)) (W : Waits sig (HIx 1)) (hO : ∀ g, O g none = 0) :
    iprop(levAts (K (F := F)).L (K (F := F)).lev ∗ emp ∗ given m d ∗ scopedBufs (S0 d) ∗ scopedSems0 (S0 d) ∗ owes (S0 d) O W)
      ⊢ wp frame (wpE (defs₀ (F := F)) 𝒱₀ (S0 d) none) Set.univ
          (cc0__rl_body (coords ⟨0, Nat.zero_lt_one⟩) cuW (Memref.isWhole_whole _) outW (Memref.isWhole_whole _)
            cuS (Memref.isWhole_whole _) outS (Memref.isWhole_whole _) cc0_scoped0 cc0_scoped1)
          fun _ => iprop(back m d ∗ scopedBufs (S0 d) ∗ scopedSems0 (S0 d)
            ∗ ∃ W', ⌜∀ p ∈ W', p ∈ W ∨ p.2 = none ∨ p.2 = some (0 : Fin 1)⌝ ∗ owes (S0 d) O W') := by
  rw [(K (F := F)).scopedBufs_S launchFacts d _, SparseCore.Cfg.scopedSems0_S (Val := Elt F) d _, counters_split, buffers_split]
  iintro ⟨#Hlv, -, ⟨Hcu, %fo, Ho⟩, ⟨⟨⟨%fc, Hcs⟩, ⟨%fs, Hos⟩, Hbufs⟩, Htb⟩, ⟨⟨Hs0, Hs1, Hsems⟩, Hts⟩, HO⟩
  ihave Hmw := ((K (F := F)).mayWaits_none (thr := S0 d) hO) $$ Hlv
  iapply (wp_wand_r Idealize.ShloMosaic.frame (wpE (defs₀ (F := F)) 𝒱₀ (S0 d) none) Set.univ)
  isplitl [Hcu Ho Hcs Hos Hs0 Hs1 HO]
  · iapply (run d O W (m (cuLoc d)) fo fc fs)
    isplitr; · iexact Hmw
    isplitl [Hcu]; · iexact Hcu
    isplitl [Ho]; · iexact Ho
    isplitl [Hcs]; · iexact Hcs
    isplitl [Hos]; · iexact Hos
    isplitl [Hs0]; · iexact Hs0
    isplitl [Hs1]; · iexact Hs1
    iexact HO
  iintro %_ ⟨Hcu, Ho, Hcs, Hos, Hs0, Hs1, %W', HO⟩
  isplitl [Hcu Ho]
  · isplitl [Hcu]; · iexact Hcu
    iexact Ho
  isplitl [Hcs Hos Hbufs Htb]
  · isplitl [Hcs Hos Hbufs]
    · isplitl [Hcs]; · iexact Hcs
      isplitl [Hos]; · iexact Hos
      iexact Hbufs
    iexact Htb
  isplitl [Hs0 Hs1 Hsems Hts]
  · isplitl [Hs0 Hs1 Hsems]
    · isplitl [Hs0]; · iexact Hs0
      isplitl [Hs1]; · iexact Hs1
      iexact Hsems
    iexact Hts
  iexists W'; isplitr
  · ipureintro; intro p _
    rcases p.2 with _ | q
    · exact .inr (.inl rfl)
    · exact .inr (.inr (congrArg some (Subsingleton.elim q 0)))
  · iexact HO

end Body

variable [FloatOps F]

/-- The label of the call, at a SparseCore, is the body at its grid point. -/
theorem body_of_label (c : Fin τ.nSC) :
    defs₀ (F := F) (.scScalar c) 0 ()
      = SparseCore.onCore hcore0 (fun c => cc0__rl_body (coords c) cuW (Memref.isWhole_whole _) outW (Memref.isWhole_whole _)
          cuS (Memref.isWhole_whole _) outS (Memref.isWhole_whole _) cc0_scoped0 cc0_scoped1) ⟨⟩ c := rfl

/-- The launch theorem's obligation for the one call. -/
theorem obligation : (K (F := F)).ScalarObl (D (F := F)) 𝒱 (pay m) v₀ 0 := by
  intro d c O W hO _ _
  simp only [show (pay m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [body_of_label]; simp only [SparseCore.onCore, hc, ↓reduceDIte]
  match c with
  | ⟨0, _⟩ => exact body m d O W hO

/-! ## The launch -/

/-- The launch element: the handshakes' rounds. -/
def launchElt : UU := (initOf (K (F := F)).hsCells (K (F := F)).hsToks, 1)

theorem launchElt_split : (ownU (launchElt (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  have he : (bigSep Finset.univ fun thr : Thread nD τ => bigSep Finset.univ fun q : Fin 1 => (pay m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [he, hd]
  unfold launchElt
  iintro Hu
  ihave H := (ownU_pair _ _) $$ Hu
  icases H with ⟨HH, -⟩
  imodintro
  isplitl [HH]; · iexact HH
  isplitr <;> iempintro

/-- The TensorCore's arrays at launch: the values, the offsets and the output. -/
theorem arrays_split (d : Dev nD) (w : (b : Ref sig .tc) → Buf (Elt F) ((d.tc : Thread nD τ).loc b)) :
    (unscopedBufs d w : sProp 𝕄)
      = iprop((valLoc d ↦{fullShare} w main_arg0) ∗ (cuLoc d ↦{fullShare} w main_arg1) ∗ (outLoc d ↦{fullShare} w main_v0)) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem given_eq (d : Dev nD) : (bigSep Finset.univ fun c : Fin ((K (F := F)).nCore 0) => (pay m).st 0 d c) = given m d := by
  show (bigSep (Finset.univ : Finset (Fin 1)) fun _ => given m d) = _
  rw [show (Finset.univ : Finset (Fin 1)) = {0} by decide, bigSep_singleton]

theorem back_eq (d : Dev nD) : (bigSep Finset.univ fun c : Fin ((K (F := F)).nCore 0) => (pay m).dn 0 d c) = back m d := by
  show (bigSep (Finset.univ : Finset (Fin 1)) fun _ => back m d) = _
  rw [show (Finset.univ : Finset (Fin 1)) = {0} by decide, bigSep_singleton]

/-- What @main keeps to its end: the values and the offsets as launched, the output at the row lengths. -/
abbrev final (d : Dev nD) : sProp 𝕄 := iprop((valLoc d ↦{fullShare} m (valLoc d)) ∗ back m d)

/-- @main on a device's TensorCore: the one call. -/
theorem main_wp (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m d ∗ (K (F := F)).tcEnd d) := by
  unfold SparseCore.Cfg.tcRes SparseCore.Cfg.tcEnd
  rw [arrays_split]
  simp only [main, wp_bind, wp_pure]
  iintro ⟨#Hctx, Hst, ⟨Hb, ⟨Hv, Hcu, Ho⟩, Hts, -⟩, -⟩
  iapply ((K (F := F)).wp_run (D (F := F)) 𝒱 (EH := EH) (P := pay m) κ d 0) $$ [Hst Hcu Ho Hb Hv Hts]
  isplitr; · iexact Hctx
  isplitl [Hst]; · iexact Hst
  isplitl [Hcu Ho]
  · rw [given_eq]
    isplitl [Hcu]; · iexact Hcu
    iexists _; iexact Ho
  iintro ⟨Hst, Hdn⟩
  ihave Hdn' := (Entails.of_eq (back_eq m d)) $$ Hdn
  imodintro
  isplitl [Hst]; · iexact Hst
  isplitl [Hv Hdn']
  · isplitl [Hv]; · iexact Hv
    iexact Hdn'
  isplitl [Hb] <;> iassumption

/-- What the end of @main says of the final memory of a device. -/
def ends (d : Dev nD) (mem : (ℓ : Loc nD τ sig) → Buf (Elt F) ℓ) : Prop :=
  mem (valLoc d) = m (valLoc d) ∧ mem (cuLoc d) = m (cuLoc d) ∧ mem (outLoc d) = rowLens (m (cuLoc d))

theorem final_ends (d : Dev nD) (s' : Phys nD τ sig (Elt F)) :
    iprop(final m d ∗ SI s') ⊢ (⌜ends m d s'.mem.mem⌝ : sProp 𝕄) := by
  iintro ⟨⟨Hv, Hcu, Ho⟩, HSI⟩
  icombine HSI Hv gives %hv
  icombine HSI Hcu gives %hcu
  icombine HSI Ho gives %ho
  ipureintro
  exact ⟨funext fun i => hv i (Finset.mem_univ i), funext fun i => hcu i (Finset.mem_univ i), funext fun i => ho i (Finset.mem_univ i)⟩

/-- The program's run, at any float values: every weakly fair execution terminates, nothing faulting, with both arguments
    unchanged, the output array at the row lengths of the offsets, and every semaphore counter at zero. -/
theorem run_main [∀ e, Nonempty (Elt F e)] :
    θ_run (Cert.KernelIdeal.defs (F := F)) (Cert.KernelIdeal.threads (F := F)) ⟨m, fun _ => 0, ρ⟩
      fun r => (∀ d : Dev nD, ends m d r.2.mem) ∧ r.2.sem = fun _ => 0 :=
  SparseCore.Cfg.θ_run_sc_quiescent (K := K (F := F)) (D := D (F := F)) (𝒱 := 𝒱) (EH := EH) (P := pay m) (A := ∅) launchFacts v₀
    (fun q _ => match q with | 0 => obligation m)
    (fun q hq => match q with | 0 => nomatch hq)
    (fun q hq => match q with | 0 => nomatch hq)
    m ρ main (fun _ => iprop(emp)) (final m) (launchElt (F := F)) (sep_elim_left.trans (launchElt_split m)) (main_wp m ρ)
    (fun d s' => ends m d s'.mem.mem) (final_ends m) _ (fun _ h hz => ⟨h, hz⟩)

end Cert.Proof.RowLengths
-- ==== Proof.Reference.lean ====
/-
  The reference: the difference of two slices of the offsets is the row lengths.
-/
module

public import proofs.«01_k».proof.Proof.Gen.ReferenceIdeal.Run
public import proofs.«01_k».proof.Proof.Body
public import Idealize.ShloMosaic.Lib.Pipeline.Value

@[expose] public section

noncomputable section

namespace Cert.Proof.RowLengths

open Idealize.ShloMosaic

/-- The words `1` to `16` of the offsets less the words `0` to `15`, entry by entry, are the row lengths. -/
theorem diff_eq (cu : Cert.ReferenceIdeal.S17.Idx → BitVec 32) (h₁ : Cert.ReferenceIdeal.S17.Slices ![1] Cert.ReferenceIdeal.S16)
    (h₀ : Cert.ReferenceIdeal.S17.Slices ![0] Cert.ReferenceIdeal.S16) :
    subi (extractStridedSlice Cert.ReferenceIdeal.S16 ![1] cu h₁) (extractStridedSlice Cert.ReferenceIdeal.S16 ![0] cu h₀) = rowLens cu := by
  funext i
  refine congrArg₂ (· - ·) (extractStridedSlice_apply _ cu h₁ i _ fun a => ?_) (extractStridedSlice_apply _ cu h₀ i _ fun a => ?_) <;>
    fin_cases a
  · exact Nat.add_comm _ _
  · exact (Nat.zero_add _).symm

end Cert.Proof.RowLengths
-- ==== Proof.lean ====
/-
  The five claims: the frame of the kernel, of its idealization and of the reference's, the idealization's provenance, and
  the equality of the results of the kernel's and the reference's idealizations.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel as printed runs, leaves its arguments unchanged and its semaphore counters at zero. -/
theorem frame_kernel : Cert.quiescent_Kernel := fun m g _ =>
  (θ_run Cert.KernelIdeal.defs _ _).mono (fun _ h => ⟨fun c => ⟨(h.1 c).1, (h.1 c).2.1⟩, h.2⟩) (RowLengths.run_main (F := Bits) m g)

/-- The kernel's idealization runs, leaves its arguments unchanged and its semaphore counters at zero. -/
theorem frame_ideal : Cert.quiescent_KernelIdeal := fun m g _ =>
  (θ_run Cert.KernelIdeal.defs _ _).mono (fun _ h => ⟨fun c => ⟨(h.1 c).1, (h.1 c).2.1⟩, h.2⟩) (RowLengths.run_main (F := Ideal) m g)

/-- The reference runs and leaves its arguments unchanged; it has no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- From memories that agree on the arguments, the kernel's idealization and the reference's end with equal results: the
    values array itself, and the row lengths of the offsets. -/
theorem results_equal : Cert.algebraic_KernelIdeal_ReferenceIdeal := fun m g m' g' _ agree =>
  ⟨fun c => m (RowLengths.valLoc c), fun c => RowLengths.rowLens (m (RowLengths.cuLoc c)),
    (θ_run Cert.KernelIdeal.defs _ _).mono (fun _ h c => ⟨(h.1 c).1, (h.1 c).2.2, (h.1 c).1, (h.1 c).2.1⟩)
      (RowLengths.run_main (F := Ideal) m g),
    (θ_run Cert.ReferenceIdeal.defs _ _).mono
      (fun _ h c => ⟨(h c).1.trans (agree c).1,
        (h c).2.1.trans ((RowLengths.diff_eq _ _ _).trans (congrArg RowLengths.rowLens (agree c).2)), (h c).2.2⟩)
      (Cert.ReferenceIdeal.Value.run (F := Ideal) m' g')⟩

/-- The claims of this certificate, all five. -/
theorem claim : Cert.Claim :=
  ⟨Cert.Kernel.Gen.facts, Cert.KernelIdeal.Gen.facts, Cert.ReferenceIdeal.Gen.facts,
    frame_kernel, frame_ideal, frame_reference, trivial, results_equal⟩

end Cert.Proof

end
